-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_classes_in_range [hPre_classes_in_range : Cert.Pre_classes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_classes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_in_range [hPre_classes_in_range : Cert.Pre_classes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_classes_in_range [hKernelIdeal : Cert.KernelIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_classes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_classes_in_range [hReferenceIdeal : Cert.ReferenceIdeal.Facts] [hPre_classes_in_range : Cert.Pre_classes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_classes_in_range [hKernelIdeal : Cert.KernelIdeal.Facts] [hReferenceIdeal : Cert.ReferenceIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_classes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_classes_in_range : Cert.Pre_classes_in_range.Facts),
    quiescent_Kernel (hKernel := hKernel)
    ∧ quiescent_KernelIdeal (hKernelIdeal := hKernelIdeal)
    ∧ quiescent_KernelIdeal_pre_classes_in_range (hKernelIdeal := hKernelIdeal) (hPre_classes_in_range := hPre_classes_in_range)
    ∧ quiescent_ReferenceIdeal (hReferenceIdeal := hReferenceIdeal)
    ∧ quiescent_ReferenceIdeal_pre_classes_in_range (hReferenceIdeal := hReferenceIdeal) (hPre_classes_in_range := hPre_classes_in_range)
    ∧ preserves_Kernel_KernelIdeal
    ∧ algebraic_KernelIdeal_ReferenceIdeal_pre_classes_in_range (hKernelIdeal := hKernelIdeal) (hReferenceIdeal := hReferenceIdeal) (hPre_classes_in_range := hPre_classes_in_range)
-- ==== Pre_classes_in_range.lean ====
abbrev S16384x1000 : Shape := ⟨2, ![16384, 1000]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x1000 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x1000 : Shape := ⟨2, ![16384, 1000]⟩
abbrev S16384 : Shape := ⟨1, ![16384]⟩
abbrev S32x1x512 : Shape := ⟨3, ![32, 1, 512]⟩
abbrev S1x1 : Shape := ⟨2, ![1, 1]⟩
abbrev S512x1000 : Shape := ⟨2, ![512, 1000]⟩
abbrev S1x1x512 : Shape := ⟨3, ![1, 1, 512]⟩
abbrev S1x1024 : Shape := ⟨2, ![1, 1024]⟩
abbrev S512 : Shape := ⟨1, ![512]⟩
abbrev S512x1 : Shape := ⟨2, ![512, 1]⟩
abbrev S512x1024 : Shape := ⟨2, ![512, 1024]⟩
abbrev S1024 : Shape := ⟨1, ![1024]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S32x1x512, .i32⟩
  | .hbm, ⟨3, _⟩ => ⟨S1x1, .f32⟩
  | .local _ .vmem, ⟨0, _⟩ => ⟨S512x1000, .f32⟩
  | .local _ .vmem, ⟨1, _⟩ => ⟨S512x1000, .f32⟩
  | .local _ .vmem, ⟨2, _⟩ => ⟨S1x1x512, .i32⟩
  | .local _ .vmem, ⟨3, _⟩ => ⟨S1x1x512, .i32⟩
  | .local _ .vmem, ⟨4, _⟩ => ⟨S1x1, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v52 : BitVec 1 := Scalar.cmpi .eq arg0 c31_i32
  let v53 : BitVec 32 := Scalar.extui v52
  let c0_i32_21 : BitVec 32 := 0#32
  let v54 : BitVec 1 := Scalar.cmpi .ne v53 c0_i32_21
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x1000 : Shape := ⟨2, ![16384, 1000]⟩
abbrev S16384 : Shape := ⟨1, ![16384]⟩
abbrev S_ : Shape := ⟨0, ![]⟩
abbrev S1000x1000 : Shape := ⟨2, ![1000, 1000]⟩
abbrev S16384x1 : Shape := ⟨2, ![16384, 1]⟩
abbrev S16384x2 : Shape := ⟨2, ![16384, 2]⟩
abbrev S1000 : Shape := ⟨1, ![1000]⟩
abbrev S1000x1 : Shape := ⟨2, ![1000, 1]⟩
abbrev S1000x2 : Shape := ⟨2, ![1000, 2]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384x1000, .i32⟩
  | .hbm, ⟨3, _⟩ => ⟨S_, .f32⟩
  | .hbm, ⟨4, _⟩ => ⟨S_, .i32⟩
  | .hbm, ⟨5, _⟩ => ⟨S16384, .f32⟩
  | .hbm, ⟨6, _⟩ => ⟨S16384, .i32⟩
  | .hbm, ⟨7, _⟩ => ⟨S_, .f32⟩
  | .hbm, ⟨8, _⟩ => ⟨S1000x1000, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S16384x1, .i32⟩
  | .hbm, ⟨25, _⟩ => ⟨S16384x2, .i32⟩
  | .hbm, ⟨26, _⟩ => ⟨S_, .f32⟩
  | .hbm, ⟨27, _⟩ => ⟨S16384, .f32⟩
  | .hbm, ⟨28, _⟩ => ⟨S1000x1000, .f32⟩
  | .hbm, ⟨29, _⟩ => ⟨S1000, .i32⟩
  | .hbm, ⟨30, _⟩ => ⟨S1000, .i32⟩
  | .hbm, ⟨31, _⟩ => ⟨S_, .i32⟩
  | .hbm, ⟨32, _⟩ => ⟨S1000, .i32⟩
  | .hbm, ⟨33, _⟩ => ⟨S1000, .i1⟩
  | .hbm, ⟨34, _⟩ => ⟨S_, .i32⟩
  | .hbm, ⟨35, _⟩ => ⟨S1000, .i32⟩
  | .hbm, ⟨36, _⟩ => ⟨S1000, .i32⟩
  | .hbm, ⟨37, _⟩ => ⟨S1000, .i32⟩
  | .hbm, ⟨38, _⟩ => ⟨S_, .i32⟩
  | .hbm, ⟨39, _⟩ => ⟨S1000, .i32⟩
  | .hbm, ⟨40, _⟩ => ⟨S1000, .i1⟩
  | .hbm, ⟨41, _⟩ => ⟨S_, .i32⟩
  | .hbm, ⟨42, _⟩ => ⟨S1000, .i32⟩
  | .hbm, ⟨43, _⟩ => ⟨S1000, .i32⟩
  | .hbm, ⟨44, _⟩ => ⟨S1000, .i32⟩
  | .hbm, ⟨45, _⟩ => ⟨S1000x1, .i32⟩
  | .hbm, ⟨46, _⟩ => ⟨S1000x1, .i32⟩
  | .hbm, ⟨47, _⟩ => ⟨S1000x2, .i32⟩
  | .hbm, ⟨48, _⟩ => ⟨S1000, .f32⟩
  | .hbm, ⟨49, _⟩ => ⟨S_, .f32⟩
  | .hbm, ⟨50, _⟩ => ⟨S1000, .f32⟩
  | .hbm, ⟨51, _⟩ => ⟨S_, .f32⟩
  | .hbm, ⟨52, _⟩ => ⟨S1000, .f32⟩
  | .hbm, ⟨53, _⟩ => ⟨S1000, .f32⟩
  | .hbm, ⟨54, _⟩ => ⟨S1000, .f32⟩
  | .hbm, ⟨55, _⟩ => ⟨S1000, .f32⟩
  | .hbm, ⟨56, _⟩ => ⟨S_, .f32⟩
  | .hbm, ⟨57, _⟩ => ⟨S1000, .f32⟩
  | .hbm, ⟨58, _⟩ => ⟨S1000, .f32⟩
  | .hbm, ⟨59, _⟩ => ⟨S1000, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1000, .f32⟩
  | .hbm, ⟨65, _⟩ => ⟨S_, .f32⟩
  | .hbm, ⟨66, _⟩ => ⟨S1000, .f32⟩
  | .hbm, ⟨67, _⟩ => ⟨S1000, .f32⟩
  | .hbm, ⟨68, _⟩ => ⟨S1000, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1x1, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_14 : Ref sig .tc := ⟨.hbm, 69, rfl⟩
abbrev main_v47 : Ref sig .tc := ⟨.hbm, 70, rfl⟩
abbrev main_cst_15 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]
-- ==== Proof.FirstMax.lean ====
/-
  The predicted class of one row of scores: the first place where the row takes its greatest value. Stated without a
  program, with the two ways of computing it: a left fold that keeps the better of two (value, place) pairs, and the
  least place among those where the row equals its maximum.
-/
module

public import Idealize.ShloMosaic.Lib.Pointwise

@[expose] public section

noncomputable section

namespace Cert.FirstMax

open Idealize.ShloMosaic

/-- `p` is the first place where `f` takes its greatest value. -/
def IsFirstMax {n : ℕ} (f : Fin n → EReal) (p : Fin n) : Prop :=
  (∀ k, f k ≤ f p) ∧ ∀ k, f k = f p → p ≤ k

/-- There is at most one such place. -/
theorem IsFirstMax.unique {n : ℕ} {f : Fin n → EReal} {p q : Fin n} (hp : IsFirstMax f p) (hq : IsFirstMax f q) : p = q := by
  have e : f p = f q := le_antisymm (hq.1 p) (hp.1 q)
  exact le_antisymm (hp.2 q e.symm) (hq.2 p e)

/-- A row that is not empty has one. -/
theorem exists_isFirstMax {n : ℕ} (f : Fin (n + 1) → EReal) : ∃ p, IsFirstMax f p := by
  classical
  obtain ⟨q, hq⟩ := Finite.exists_max f
  have hne : (Finset.univ.filter fun k => f k = f q).Nonempty := ⟨q, by simp⟩
  refine ⟨(Finset.univ.filter fun k => f k = f q).min' hne, ?_, fun k hk => ?_⟩
  · have hm := Finset.min'_mem _ hne
    rw [Finset.mem_filter] at hm
    exact fun k => (hq k).trans (le_of_eq hm.2.symm)
  · have hm := Finset.min'_mem _ hne
    rw [Finset.mem_filter] at hm
    exact Finset.min'_le _ _ (by simp [hk, hm.2])

/-- The first place where a row of a thousand scores takes its greatest value. -/
def firstMax (f : Fin 1000 → EReal) : Fin 1000 := (exists_isFirstMax f).choose

/-- It is one. -/
theorem firstMax_spec (f : Fin 1000 → EReal) : IsFirstMax f (firstMax f) := (exists_isFirstMax f).choose_spec

/-- Whatever is the first place of the greatest value is `firstMax`. -/
theorem eq_firstMax {f : Fin 1000 → EReal} {p : Fin 1000} (hp : IsFirstMax f p) : p = firstMax f :=
  hp.unique (firstMax_spec f)

/-! ## Words below 2³¹ -/

/-- A number below 2³¹ written as a word reads back, signed, as itself. -/
theorem toInt_ofNat {a : ℕ} (ha : a < 2 ^ 31) : (BitVec.ofNat 32 a).toInt = (a : ℤ) := by
  rw [BitVec.toInt_eq_toNat_of_lt (by rw [BitVec.toNat_ofNat]; omega), BitVec.toNat_ofNat, Nat.mod_eq_of_lt (by omega)]

/-- Two class numbers written as 32-bit words compare, signed, as the numbers do. -/
theorem slt_ofNat {a b : ℕ} (ha : a < 2 ^ 31) (hb : b < 2 ^ 31) :
    (BitVec.ofNat 32 a).slt (BitVec.ofNat 32 b) = decide (a < b) := by
  rw [BitVec.slt_eq_decide, toInt_ofNat ha, toInt_ofNat hb]
  simp

/-- Two numbers below 2³² written as words are equal words only if they are equal. -/
theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-! ## The fold over (value, place) pairs -/

/-- One pair is at least as good as another: a greater value, or the same value at an earlier or the same
    place, places compared as signed words. -/
def Better (a b : EReal × BitVec 32) : Prop := b.1 < a.1 ∨ (a.1 = b.1 ∧ a.2.toInt ≤ b.2.toInt)

theorem Better.refl (a : EReal × BitVec 32) : Better a a := Or.inr ⟨rfl, le_rfl⟩

theorem Better.trans {a b c : EReal × BitVec 32} (h : Better a b) (h' : Better b c) : Better a c := by
  rcases h with h | ⟨h, k⟩ <;> rcases h' with h' | ⟨h', k'⟩
  · exact Or.inl (lt_trans h' h)
  · exact Or.inl (h' ▸ h)
  · exact Or.inl (h.symm ▸ h')
  · exact Or.inr ⟨h.trans h', k.trans k'⟩

/-- A fold that at each step keeps one of its two arguments, one at least as good as the other, ends with a pair met on
    the way that is at least as good as all of them. -/
theorem foldl_better (g : EReal × BitVec 32 → EReal × BitVec 32 → EReal × BitVec 32)
    (hg : ∀ a b, (g a b = a ∧ Better a b) ∨ (g a b = b ∧ Better b a)) (l : List (EReal × BitVec 32)) :
    ∀ a, (l.foldl g a = a ∨ l.foldl g a ∈ l) ∧ Better (l.foldl g a) a ∧ ∀ b ∈ l, Better (l.foldl g a) b := by
  induction l with
  | nil => exact fun a => ⟨Or.inl rfl, Better.refl a, fun b hb => nomatch hb⟩
  | cons x l ih =>
    intro a
    obtain ⟨h1, h2, h3⟩ := ih (g a x)
    rw [List.foldl_cons]
    have hga : Better (g a x) a := by
      rcases hg a x with ⟨e, _⟩ | ⟨e, h⟩
      · rw [e]; exact Better.refl a
      · rw [e]; exact h
    have hgx : Better (g a x) x := by
      rcases hg a x with ⟨e, h⟩ | ⟨e, _⟩
      · rw [e]; exact h
      · rw [e]; exact Better.refl x
    refine ⟨?_, h2.trans hga, fun b hb => ?_⟩
    · rcases h1 with h1 | h1
      · rcases hg a x with ⟨e, _⟩ | ⟨e, _⟩
        · exact Or.inl (h1.trans e)
        · exact Or.inr (by rw [h1, e]; exact List.mem_cons_self)
      · exact Or.inr (List.mem_cons_of_mem _ h1)
    · rcases List.mem_cons.1 hb with rfl | hb
      · exact h2.trans hgx
      · exact h3 b hb

/-- Such a fold over the pairs (value, place) of a row, in any order, starting from the pair (−∞, 0), ends at the first
    place of the row's greatest value. -/
theorem foldl_firstMax (g : EReal × BitVec 32 → EReal × BitVec 32 → EReal × BitVec 32)
    (hg : ∀ a b, (g a b = a ∧ Better a b) ∨ (g a b = b ∧ Better b a)) (f : Fin 1000 → EReal) (l : List (EReal × BitVec 32))
    (hl : ∀ a, a ∈ l ↔ ∃ k : Fin 1000, a = (f k, BitVec.ofNat 32 k.val)) :
    (l.foldl g (⊥, 0#32)).2 = BitVec.ofNat 32 (firstMax f).val := by
  obtain ⟨h1, h2, h3⟩ := foldl_better g hg l (⊥, 0#32)
  have hk : ∀ k : Fin 1000, Better (l.foldl g (⊥, 0#32)) (f k, BitVec.ofNat 32 k.val) := fun k => h3 _ ((hl _).2 ⟨k, rfl⟩)
  have hp : ∃ p : Fin 1000, l.foldl g (⊥, 0#32) = (f p, BitVec.ofNat 32 p.val) := by
    rcases h1 with h1 | h1
    · refine ⟨0, ?_⟩
      have h0 := hk 0
      rw [h1] at h0 ⊢
      rcases h0 with h0 | ⟨h0, _⟩
      · exact absurd h0 not_lt_bot
      · exact Prod.ext h0 rfl
    · exact (hl _).1 h1
  obtain ⟨p, hp⟩ := hp
  rw [hp]
  refine congrArg (fun q : Fin 1000 => BitVec.ofNat 32 q.val) (eq_firstMax (p := p) ⟨fun k => ?_, fun k e => ?_⟩)
  · have := hk k
    rw [hp] at this
    rcases this with h | ⟨h, _⟩
    · exact le_of_lt h
    · exact le_of_eq h.symm
  · have := hk k
    rw [hp] at this
    rcases this with h | ⟨_, h⟩
    · exact absurd e (ne_of_lt h)
    · rw [toInt_ofNat (by have := p.isLt; omega), toInt_ofNat (by have := k.isLt; omega)] at h
      exact Fin.le_def.2 (by omega)

/-! ## The least place where the row equals its maximum -/

/-- The least, as signed words from 2³¹ − 1 on, of the place where the row equals its maximum (folded from −∞) and 1000
    elsewhere, is the first place of the greatest value. -/
theorem fold_minsi_firstMax (f : Fin 1000 → EReal) :
    Finset.univ.fold IntOp.minsi 2147483647#32
        (fun k : Fin 1000 => if f k = Finset.univ.fold max ⊥ f then BitVec.ofNat 32 k.val else 1000#32)
      = BitVec.ofNat 32 (firstMax f).val := by
  have hM : Finset.univ.fold max ⊥ f = f (firstMax f) := by
    refine le_antisymm ?_ ?_
    · rw [Finset.fold_max_le]
      exact ⟨bot_le, fun k _ => (firstMax_spec f).1 k⟩
    · exact Finset.le_fold_max _ |>.2 (Or.inr ⟨_, Finset.mem_univ _, le_rfl⟩)
  rw [hM]
  -- the fold over any set of places, as a number
  have key : ∀ S : Finset (Fin 1000), ∃ v : ℕ, v < 2 ^ 31
      ∧ S.fold IntOp.minsi 2147483647#32 (fun k : Fin 1000 => if f k = f (firstMax f) then BitVec.ofNat 32 k.val else 1000#32)
          = BitVec.ofNat 32 v
      ∧ (firstMax f).val ≤ v ∧ (firstMax f ∈ S → v = (firstMax f).val) := by
    intro S
    classical
    induction S using Finset.induction_on with
    | empty => exact ⟨2147483647, by norm_num, rfl, by have := (firstMax f).isLt; omega, fun h => absurd h (Finset.notMem_empty _)⟩
    | insert a S ha ih =>
      obtain ⟨v, hv, e, hle, hmem⟩ := ih
      have ht : ∃ w : ℕ, w < 2 ^ 31 ∧ (if f a = f (firstMax f) then BitVec.ofNat 32 a.val else 1000#32) = BitVec.ofNat 32 w
          ∧ (firstMax f).val ≤ w ∧ (a = firstMax f → w = (firstMax f).val) := by
        by_cases h : f a = f (firstMax f)
        · exact ⟨a.val, by have := a.isLt; omega, if_pos h, (firstMax_spec f).2 a h, fun e => by rw [e]⟩
        · exact ⟨1000, by norm_num, if_neg h, by have := (firstMax f).isLt; omega, fun e => absurd (by rw [e]) h⟩
      obtain ⟨w, hw, ew, hlw, hwa⟩ := ht
      refine ⟨min w v, by omega, ?_, by omega, fun h => ?_⟩
      · rw [Finset.fold_insert ha, e, ew]
        unfold IntOp.minsi
        rw [slt_ofNat hw hv]
        by_cases h : w < v
        · simp [h, Nat.min_eq_left (le_of_lt h)]
        · simp [h, Nat.min_eq_right (not_lt.1 h)]
      · rcases Finset.mem_insert.1 h with h | h
        · have := hwa h.symm; omega
        · have := hmem h; omega
  obtain ⟨v, hv, e, _, hmem⟩ := key Finset.univ
  rw [e, hmem (Finset.mem_univ _)]

end Cert.FirstMax

end
-- ==== Proof.Count.lean ====
/-
  Counting rows, as extended reals: how many of the first `n` rows have a property. No program appears here.
-/
module

public import Idealize.ShloMosaic.Lib.Pointwise

@[expose] public section

noncomputable section

namespace Cert.Count

open Idealize.ShloMosaic

/-- The number of `R < n` with the property `P`, as an extended real. -/
def tally (P : ℕ → Prop) [DecidablePred P] (n : ℕ) : EReal := ∑ R ∈ Finset.range n, if P R then (1 : EReal) else 0

/-- No number is below zero. -/
theorem tally_zero (P : ℕ → Prop) [DecidablePred P] : tally P 0 = 0 := Finset.sum_range_zero _

/-- A tally over `n + k` rows is the tally over the first `n` and the count over the `k` next ones. -/
theorem tally_add (P : ℕ → Prop) [DecidablePred P] (n k : ℕ) :
    tally P (n + k) = tally P n + ∑ r : Fin k, if P (n + r.val) then (1 : EReal) else 0 := by
  unfold tally
  rw [Finset.sum_range_add, Finset.sum_range (n := k)]

/-- A tally as a sum over the bounded numbers. -/
theorem tally_eq_sum (P : ℕ → Prop) [DecidablePred P] (n : ℕ) :
    tally P n = ∑ R : Fin n, if P R.val then (1 : EReal) else 0 := by
  unfold tally
  rw [Finset.sum_range]

/-- Tallies of two properties that hold of the same rows agree. -/
theorem tally_congr {P Q : ℕ → Prop} [DecidablePred P] [DecidablePred Q] {n : ℕ} (h : ∀ R, R < n → (P R ↔ Q R)) :
    tally P n = tally Q n := by
  unfold tally
  refine Finset.sum_congr rfl fun R hR => ?_
  rw [if_congr (h R (Finset.mem_range.1 hR)) rfl rfl]

/-- A property no row has is tallied zero. -/
theorem tally_eq_zero {P : ℕ → Prop} [DecidablePred P] {n : ℕ} (h : ∀ R, R < n → ¬ P R) : tally P n = 0 := by
  unfold tally
  exact Finset.sum_eq_zero fun R hR => if_neg (h R (Finset.mem_range.1 hR))

/-- A tally is a natural number. -/
theorem tally_nat (P : ℕ → Prop) [DecidablePred P] (n : ℕ) : ∃ k : ℕ, tally P n = ((k : ℝ) : EReal) := by
  induction n with
  | zero => exact ⟨0, by rw [tally_zero]; simp⟩
  | succ n ih =>
    obtain ⟨k, hk⟩ := ih
    have hs : tally P (n + 1) = tally P n + if P n then (1 : EReal) else 0 := Finset.sum_range_succ _ n
    rw [hs, hk]
    by_cases h : P n
    · exact ⟨k + 1, by rw [if_pos h]; push_cast; rfl⟩
    · exact ⟨k, by rw [if_neg h, add_zero]⟩

/-- Rows sorted into classes: if every row has exactly one class among `0 … C - 1`, the tallies of a property within each
    class sum to the tally of the property. -/
theorem sum_tally {C : ℕ} (P : ℕ → Prop) [DecidablePred P] (Q : Fin C → ℕ → Prop) [∀ i, DecidablePred (Q i)] (n : ℕ)
    (cls : ℕ → Fin C) (hc : ∀ R, R < n → ∀ i, Q i R ↔ cls R = i) :
    ∑ i : Fin C, tally (fun R => P R ∧ Q i R) n = tally P n := by
  unfold tally
  rw [Finset.sum_comm]
  refine Finset.sum_congr rfl fun R hR => ?_
  have e : ∀ i : Fin C, (if P R ∧ Q i R then (1 : EReal) else 0) = if cls R = i then (if P R then 1 else 0) else 0 := by
    intro i
    by_cases hP : P R <;> by_cases hq : cls R = i <;> simp [hP, hq, hc R (Finset.mem_range.1 hR) i]
  rw [Finset.sum_congr rfl fun i _ => e i, Finset.sum_ite_eq, if_pos (Finset.mem_univ _)]

/-- The part and the rest make the whole: `k + (n - k) = n` for natural numbers as extended reals. -/
theorem part_add_rest (P Q : ℕ → Prop) [DecidablePred P] [DecidablePred Q] (n k : ℕ) :
    tally P n + (tally Q k - tally P n) = tally Q k := by
  obtain ⟨a, ha⟩ := tally_nat P n
  obtain ⟨b, hb⟩ := tally_nat Q k
  rw [ha, hb, ← EReal.coe_sub, ← EReal.coe_add]
  congr 1
  ring

/-! ## Division and sums of the score -/

/-- The added constant 1e-7 is not zero. -/
theorem eps_ne_zero : Ideal.ofBits .f32 0x33D6BF95#32 ≠ 0 := by
  simp [Ideal.ofBits, Ideal.ieee]

/-- The doubling constant is 2. -/
theorem two_eq : Ideal.ofBits .f32 0x40000000#32 = 2 := by
  simp [Ideal.ofBits, Ideal.ieee]
  rw [← EReal.coe_mul, show (8388608 : ℝ) * (2 ^ 22)⁻¹ = 2 by norm_num]
  rfl

/-- Zero over a number that is not zero is zero. -/
theorem div_zero_left {y : EReal} (hy : y ≠ 0) : Ideal.div 0 y = 0 := by
  unfold Ideal.div
  rw [if_neg hy, zero_mul]

/-- Doubling a numerator doubles the quotient. -/
theorem div_two_mul (x y : EReal) : Ideal.div (2 * x) y = 2 * Ideal.div x y := by
  unfold Ideal.div
  split
  · have h : (0 : EReal) < 2 * x ↔ 0 < x := by
      constructor
      · intro h
        by_contra hx
        exact absurd h (not_lt.2 (mul_nonpos_of_nonneg_of_nonpos (by norm_num) (not_lt.1 hx)))
      · exact fun hx => EReal.mul_pos (by norm_num) hx
    by_cases hx : 0 < x
    · rw [if_pos hx, if_pos (h.2 hx)]
      exact (EReal.mul_top_of_pos (by norm_num)).symm
    · rw [if_neg hx, if_neg (fun e => hx (h.1 e))]
      exact (EReal.mul_bot_of_pos (by norm_num)).symm
  · exact mul_assoc _ _ _

/-- A sum over 1024 lanes whose last 24 are zero is the sum over the first 1000. -/
theorem sum_lanes (f : ℕ → EReal) (h : ∀ l, 1000 ≤ l → l < 1024 → f l = 0) :
    ∑ l : Fin 1024, f l.val = ∑ i : Fin 1000, f i.val := by
  rw [← Finset.sum_range f, ← Finset.sum_range f, show 1024 = 1000 + 24 from rfl, Finset.sum_range_add,
    Finset.sum_eq_zero (s := Finset.range 24), add_zero]
  intro l hl
  have := Finset.mem_range.1 hl
  exact h _ (by omega) (by omega)

end Cert.Count

end
-- ==== Proof.Rows.lean ====
/-
  The two argument arrays row by row, and the three counts the score is made of: how many rows have a class, how many
  are predicted to have it, and how many do both. No program appears here.
-/
module

public import proofs.«01_k».proof.Proof.FirstMax
public import proofs.«01_k».proof.Proof.Count

@[expose] public section

noncomputable section

namespace Cert.Rows

open Idealize.ShloMosaic Cert.FirstMax Cert.Count

/-- The scores: 16384 rows of 1000. -/
abbrev Scores := (⟨2, ![16384, 1000]⟩ : Shape).Idx → EReal

/-- The labels: one word per row. -/
abbrev Labels := (⟨1, ![16384]⟩ : Shape).Idx → BitVec 32

/-- The predicted class of row `R`, as a word. -/
def predAt (x : Scores) (R : ℕ) : BitVec 32 :=
  if h : R < 16384 then BitVec.ofNat 32 (firstMax fun k => x (ix2 ⟨R, h⟩ k)).val else 0#32

/-- The true class of row `R`, as a word. -/
def trueAt (t : Labels) (R : ℕ) : BitVec 32 := if h : R < 16384 then t (ix1 ⟨R, h⟩) else 0#32

/-- How many of the first `n` rows have class `l`. -/
def trueCount (t : Labels) (n l : ℕ) : EReal := tally (fun R => trueAt t R = BitVec.ofNat 32 l) n

/-- How many of the first `n` rows are predicted to have class `l`. -/
def predCount (x : Scores) (n l : ℕ) : EReal := tally (fun R => predAt x R = BitVec.ofNat 32 l) n

/-- How many of the first `n` rows have class `l` and are predicted to have it. -/
def hitCount (x : Scores) (t : Labels) (n l : ℕ) : EReal :=
  tally (fun R => trueAt t R = BitVec.ofNat 32 l ∧ predAt x R = BitVec.ofNat 32 l) n

/-- A row predicts a class below 1000. -/
theorem predAt_eq (x : Scores) (R : ℕ) : ∃ p : Fin 1000, predAt x R = BitVec.ofNat 32 p.val := by
  unfold predAt
  by_cases h : R < 16384
  · exact ⟨_, dif_pos h⟩
  · exact ⟨0, dif_neg h⟩

/-- No row is predicted to have a class from 1000 to 1023. -/
theorem predAt_ne (x : Scores) (R l : ℕ) (hl : 1000 ≤ l) (hl' : l < 1024) : predAt x R ≠ BitVec.ofNat 32 l := by
  obtain ⟨p, hp⟩ := predAt_eq x R
  rw [hp]
  intro e
  have := ofNat_inj (by have := p.isLt; omega) (by omega) e
  have := p.isLt
  omega

/-- So the predictions' count is zero there, -/
theorem predCount_eq_zero (x : Scores) (n l : ℕ) (hl : 1000 ≤ l) (hl' : l < 1024) : predCount x n l = 0 :=
  tally_eq_zero fun R _ => predAt_ne x R l hl hl'

/-- and the count of the correct ones too. -/
theorem hitCount_eq_zero (x : Scores) (t : Labels) (n l : ℕ) (hl : 1000 ≤ l) (hl' : l < 1024) : hitCount x t n l = 0 :=
  tally_eq_zero fun R _ e => predAt_ne x R l hl hl' e.2

/-- Every label is a class number below 1000. -/
def InRange (t : Labels) : Prop := ∀ j, ∃ k : Fin 1000, t j = BitVec.ofNat 32 k.val

/-- The same of a label at a row number. -/
theorem InRange.trueAt_eq {t : Labels} (ht : InRange t) (R : ℕ) : ∃ k : Fin 1000, trueAt t R = BitVec.ofNat 32 k.val := by
  unfold trueAt
  by_cases h : R < 16384
  · obtain ⟨k, hk⟩ := ht (ix1 ⟨R, h⟩)
    exact ⟨k, (dif_pos h).trans hk⟩
  · exact ⟨0, dif_neg h⟩

/-- In range, no row has a class from 1000 to 1023. -/
theorem InRange.trueCount_eq_zero {t : Labels} (ht : InRange t) (n l : ℕ) (hl : 1000 ≤ l) (hl' : l < 1024) :
    trueCount t n l = 0 := by
  refine tally_eq_zero fun R _ e => ?_
  obtain ⟨k, hk⟩ := ht.trueAt_eq R
  have := ofNat_inj (by have := k.isLt; omega) (by omega) (hk.symm.trans e)
  have := k.isLt
  omega

end Cert.Rows

end
-- ==== Proof.Equation.lean ====
/-
  The two ways of writing the score from the three counts, and their equality: the kernel divides by the two totals
  plus 1e-7 over 1024 lanes, the reference by TP + (total - TP) plus 1e-7 over the 1000 classes; the kernel doubles the
  numerator, the reference the quotient. No program appears here.
-/
module

public import proofs.«01_k».proof.Proof.Rows

@[expose] public section

noncomputable section

namespace Cert.Equation

open Idealize.ShloMosaic Cert.Count Cert.Rows

/-- The kernel's mean ratio: the sum over 1024 lanes of `tp / (total + 1e-7)`, over 1000. -/
def laneMean (tp total : Fin 1024 → EReal) : EReal :=
  Ideal.div (∑ l, Ideal.div (tp l) (total l + Ideal.ofBits .f32 0x33D6BF95#32)) (Ideal.ofBits .f32 0x447A0000#32)

/-- The kernel's score of two mean ratios. -/
def laneScore (a b : EReal) : EReal :=
  Ideal.div (Ideal.ofBits .f32 0x40000000#32 * (a * b)) (a + b + Ideal.ofBits .f32 0x33D6BF95#32)

/-- The reference's mean ratio: the sum over 1000 classes of `tp / (tp + (total - tp) + 1e-7)`, over 1000. -/
def classMean (tp total : Fin 1000 → EReal) : EReal :=
  Ideal.div (∑ i, Ideal.div (tp i) (tp i + (total i - tp i) + Ideal.ofBits .f32 0x33D6BF95#32))
    (Ideal.ofBits .f32 0x447A0000#32)

/-- The reference's score of two mean ratios. -/
def classScore (a b : EReal) : EReal :=
  Ideal.ofBits .f32 0x40000000#32 * Ideal.div (a * b) (a + b + Ideal.ofBits .f32 0x33D6BF95#32)

/-- The two scores of the same mean ratios agree. -/
theorem score_eq (a b : EReal) : laneScore a b = classScore a b := by
  unfold laneScore classScore
  rw [two_eq, div_two_mul]

/-- The two mean ratios agree when part and total are tallies that are zero on the lanes beyond the classes. -/
theorem mean_eq (P Q : ℕ → ℕ → Prop) [∀ l, DecidablePred (P l)] [∀ l, DecidablePred (Q l)] (n : ℕ)
    (hP : ∀ l, 1000 ≤ l → l < 1024 → tally (P l) n = 0) (hQ : ∀ l, 1000 ≤ l → l < 1024 → tally (Q l) n = 0) :
    laneMean (fun l => tally (P l.val) n) (fun l => tally (Q l.val) n)
      = classMean (fun i => tally (P i.val) n) (fun i => tally (Q i.val) n) := by
  unfold laneMean classMean
  rw [sum_lanes (fun l => Ideal.div (tally (P l) n) (tally (Q l) n + Ideal.ofBits .f32 0x33D6BF95#32))]
  · refine congrArg (Ideal.div · _) (Finset.sum_congr rfl fun i _ => ?_)
    rw [part_add_rest]
  · intro l hl hl'
    rw [hP l hl hl', hQ l hl hl', zero_add]
    exact div_zero_left eps_ne_zero

/-- With every label in range, the kernel's score of the counts is the reference's. -/
theorem scores_agree (x : Scores) (t : Rows.Labels) (ht : InRange t) :
    laneScore (laneMean (fun l => hitCount x t 16384 l.val) (fun l => trueCount t 16384 l.val))
        (laneMean (fun l => hitCount x t 16384 l.val) (fun l => predCount x 16384 l.val))
      = classScore (classMean (fun i => hitCount x t 16384 i.val) (fun i => trueCount t 16384 i.val))
          (classMean (fun i => hitCount x t 16384 i.val) (fun i => predCount x 16384 i.val)) := by
  rw [score_eq]
  refine congrArg₂ classScore ?_ ?_
  · exact mean_eq (fun l R => trueAt t R = BitVec.ofNat 32 l ∧ predAt x R = BitVec.ofNat 32 l)
      (fun l R => trueAt t R = BitVec.ofNat 32 l) 16384 (hitCount_eq_zero x t 16384) (ht.trueCount_eq_zero 16384)
  · exact mean_eq (fun l R => trueAt t R = BitVec.ofNat 32 l ∧ predAt x R = BitVec.ofNat 32 l)
      (fun l R => predAt x R = BitVec.ofNat 32 l) 16384 (hitCount_eq_zero x t 16384) (predCount_eq_zero x 16384)

end Cert.Equation

end
-- ==== Proof.Block.lean ====
/-
  What the kernel computes on one block of 512 rows, element by element: the predicted class of each row, what the block
  adds to the three count vectors, and the score of three finished count vectors.
-/
module

public import proofs.«01_k».proof.Proof.Gen.KernelIdeal.Skeleton
public import Idealize.ShloMosaic.Lib.Pointwise
public import proofs.«01_k».proof.Proof.FirstMax
public import proofs.«01_k».proof.Proof.Equation

@[expose] public section

set_option maxRecDepth 16384

noncomputable section

namespace Cert.KernelIdeal.Block

open Cert.KernelIdeal Cert.KernelIdeal.Gen Cert.FirstMax Cert.Equation
open Idealize.ShloMosaic Idealize.ShloMosaic.TcCoe Idealize.SL.Sem

/-- The class predicted for a row of scores, as a word. -/
abbrev cls (f : Fin 1000 → EReal) : BitVec 32 := BitVec.ofNat 32 (firstMax f).val

/-- The float of a one-bit comparison, widened, is one or zero. -/
theorem sitofp_eq (a b : BitVec 32) :
    (FloatOps.sitofp .f32 (BitVec.setWidth 32 (IntOp.cmpi .eq a b)) : Ideal .f32) = if a = b then (1 : EReal) else 0 := by
  by_cases h : a = b
  · subst h
    simp [IntOp.cmpi, FloatOps.sitofp]
  · simp [IntOp.cmpi, FloatOps.sitofp, h, beq_eq_false_iff_ne.2 h]

/-- The predicted class of row `r` of a block. -/
theorem pred_apply (x : Vec Ideal S512x1000 .f32) (r : Fin 512) :
    k0_pay8 (F := Ideal) x (ix1 r) = cls fun k => x (ix2 r k) := by
  pointwise [k0_pay8]
  rw [cls, ← fold_minsi_firstMax, show Ideal.ofBits FTy.f32 4286578688#32 = ⊥ by simp [Ideal.ofBits, Ideal.ieee]]

/-- One at the predicted class of row `r`, zero at the other lanes. -/
theorem onehot_apply (x : Vec Ideal S512x1000 .f32) (r : Fin 512) (l : Fin 1024) :
    k0_pay9 (F := Ideal) x (ix2 r l) = if (cls fun k => x (ix2 r k)) = BitVec.ofNat 32 l.val then (1 : EReal) else 0 := by
  pointwise [k0_pay9]
  rw [sitofp_eq, pred_apply]

/-- One if the predicted class of row `r` is its true class, else zero. -/
theorem correct_apply (x : Vec Ideal S512x1000 .f32) (y : Vec Ideal S1x1x512 .i32) (r : Fin 512) :
    k0_pay10 (F := Ideal) x y (ix1 r) = if (cls fun k => x (ix2 r k)) = y (ix3 0 0 r) then (1 : EReal) else 0 := by
  pointwise [k0_pay10, k0_pay7]
  rw [sitofp_eq, pred_apply]

/-- The predictions' counts after a block: at each lane, the rows of the block predicted to be in that class are added. -/
theorem predCount_apply (x : Vec Ideal S512x1000 .f32) (acc : Vec Ideal S1x1024 .f32) (l : Fin 1024) :
    k0_pay11 (F := Ideal) x acc (ix2 0 l)
      = acc (ix2 0 l) + ∑ r : Fin 512, if (cls fun k => x (ix2 r k)) = BitVec.ofNat 32 l.val then (1 : EReal) else 0 := by
  pointwise [k0_pay11]
  exact congrArg (acc (ix2 0 l) + ·) (Finset.sum_congr rfl fun r _ => onehot_apply x r l)

/-- The true labels' counts after a block: at each lane, the rows of the block of that class are added. -/
theorem trueCount_apply (y : Vec Ideal S1x1x512 .i32) (acc : Vec Ideal S1x1024 .f32) (l : Fin 1024) :
    k0_pay1 (F := Ideal) (k0_pay12 (F := Ideal) y acc) (ix2 0 l)
      = acc (ix2 0 l) + ∑ r : Fin 512, if y (ix3 0 0 r) = BitVec.ofNat 32 l.val then (1 : EReal) else 0 := by
  pointwise [k0_pay1, k0_pay12, k0_pay7]
  exact congrArg (acc (ix2 0 l) + ·) (Finset.sum_congr rfl fun r _ => sitofp_eq _ _)

/-- The correct predictions' counts after a block: at each lane, the rows of the block of that class and predicted to be
    in it are added. -/
theorem hitCount_apply (x : Vec Ideal S512x1000 .f32) (y : Vec Ideal S1x1x512 .i32) (acc : Vec Ideal S1x1024 .f32)
    (l : Fin 1024) :
    k0_pay2 (F := Ideal) (k0_pay9 (F := Ideal) x) (k0_pay10 (F := Ideal) x y) acc (ix2 0 l)
      = acc (ix2 0 l) + ∑ r : Fin 512,
          if y (ix3 0 0 r) = BitVec.ofNat 32 l.val ∧ (cls fun k => x (ix2 r k)) = BitVec.ofNat 32 l.val then (1 : EReal) else 0 := by
  pointwise [k0_pay2]
  refine congrArg (acc (ix2 0 l) + ·) (Finset.sum_congr rfl fun r _ => ?_)
  rw [onehot_apply, correct_apply]
  by_cases h : (cls fun k => x (ix2 r k)) = BitVec.ofNat 32 l.val
  · rw [if_pos h, one_mul]
    refine if_congr ⟨fun e => ⟨e.symm.trans h, h⟩, fun e => h.trans e.1.symm⟩ rfl rfl
  · rw [if_neg h, zero_mul, if_neg fun e => h e.2]

/-- The count vectors start at zero. -/
theorem zero_apply (l : Fin 1024) :
    k0_pay4 (F := Ideal) (ix2 0 l) = 0 ∧ k0_pay5 (F := Ideal) (ix2 0 l) = 0 ∧ k0_pay6 (F := Ideal) (ix2 0 l) = 0 := by
  refine ⟨?_, ?_, ?_⟩
  · pointwise [k0_pay4]
  · pointwise [k0_pay5]
  · pointwise [k0_pay6]

/-- The score the last step stores, from the three count vectors. -/
theorem score_apply (tp ht hp : Vec Ideal S1x1024 .f32) :
    k0_pay3 (F := Ideal) tp ht hp (ix2 0 0)
      = laneScore (laneMean (fun l => tp (ix2 0 l)) (fun l => ht (ix2 0 l)))
          (laneMean (fun l => tp (ix2 0 l)) (fun l => hp (ix2 0 l))) := by
  unfold laneScore laneMean
  pointwise [k0_pay3]

end Cert.KernelIdeal.Block

end
-- ==== Proof.State.lean ====
/-
  What the kernel's arrays hold: after the grid point of block `n` the three scratch vectors hold the three counts over
  the rows of the blocks up to `n`, and the result is the score of the counts over all rows.
-/
module

public import proofs.«01_k».proof.Proof.Gen.KernelIdeal.Value
public import Idealize.ShloMosaic.Lib.Pipeline.ValueKit
public import Idealize.ShloMosaic.Lib.Pipeline.ReadBack
public import proofs.«01_k».proof.Proof.Block
public import proofs.«01_k».proof.Proof.Rows

@[expose] public section

set_option maxRecDepth 16384

noncomputable section

namespace Cert.KernelIdeal.State

open Cert.KernelIdeal Cert.KernelIdeal.Gen Cert.KernelIdeal.Value Cert.KernelIdeal.Block Cert.Rows Cert.Count Cert.Equation
open Idealize.ShloMosaic Idealize.ShloMosaic.TcCoe Idealize.SL.Sem

variable (m : (ℓ : Loc nD τ sig) → Buf (Elt Ideal) ℓ) (c : Dev nD)

/-- The scores the kernel is given. -/
abbrev scores : Scores := m ((c : Thread nD τ).loc main_arg0)

/-- The labels the kernel is given. -/
abbrev labels : Rows.Labels := m ((c : Thread nD τ).loc main_arg1)

/-! ## The blocks of the two arguments -/

/-- Where each grid point's blocks lie. -/
theorem idx : ∀ t : Fin cfg0.N, win0_0.index t = ![t.val, 0] ∧ win0_1.index t = ![t.val, 0, 0] :=
  (by decide +kernel : ∀ t : Fin grid0.N, _)

/-- A row of a block is a row of the array. -/
theorem row_lt (t : Fin cfg0.N) (r : Fin 512) : 512 * t.val + r.val < 16384 := by
  have := lt_of_lt_of_eq t.isLt N_0
  have := r.isLt
  omega

/-- Row `r` of block `t` of the scores. -/
theorem scores_block (t : Fin cfg0.N) (r : Fin 512) (k : Fin 1000) :
    iblk m c 0 t (ix2 r k) = scores m c (ix2 ⟨512 * t.val + r.val, row_lt t r⟩ k) := by
  blk_point [iblk, V, idx t]

/-- Label `r` of block `t`. -/
theorem labels_block (t : Fin cfg0.N) (r : Fin 512) :
    iblk m c 1 t (ix3 0 0 r) = labels m c (ix1 ⟨512 * t.val + r.val, row_lt t r⟩) := by
  blk_point [iblk, V, idx t]

/-- The class predicted for row `r` of block `t`. -/
theorem pred_block (t : Fin cfg0.N) (r : Fin 512) :
    (cls fun k => iblk m c 0 t (ix2 r k)) = predAt (scores m c) (512 * t.val + r.val) := by
  rw [predAt, dif_pos (row_lt t r)]
  exact congrArg (fun f => cls f) (funext fun k => scores_block m c t r k)

/-- The class of row `r` of block `t`. -/
theorem true_block (t : Fin cfg0.N) (r : Fin 512) :
    iblk m c 1 t (ix3 0 0 r) = trueAt (labels m c) (512 * t.val + r.val) := by
  rw [trueAt, dif_pos (row_lt t r)]
  exact labels_block m c t r

/-! ## One grid point -/

/-- The first point leaves the counts of its block, started from zero. -/
theorem step_first (t : Fin cfg0.N) (acc : Vec Ideal S1x1 .f32 × Vec Ideal S1x1024 .f32 × Vec Ideal S1x1024 .f32 × Vec Ideal S1x1024 .f32) (h : t.val % 32 = 0) :
    (stAt0 m c t.val t.isLt acc).2 = (k0_pay1 (F := Ideal) (k0_pay12 (iblk m c 1 t) (k0_pay4 (F := Ideal))),
      k0_pay11 (F := Ideal) (iblk m c 0 t) (k0_pay5 (F := Ideal)),
      k0_pay2 (F := Ideal) (k0_pay9 (iblk m c 0 t)) (k0_pay10 (iblk m c 0 t) (iblk m c 1 t)) (k0_pay6 (F := Ideal))) := by
  rw [stAt0_A m c t acc h (by omega)]
  dsimp only
  frame_out

/-- Every later point adds its block's counts to what it finds. -/
theorem step_next (t : Fin cfg0.N) (acc : Vec Ideal S1x1 .f32 × Vec Ideal S1x1024 .f32 × Vec Ideal S1x1024 .f32 × Vec Ideal S1x1024 .f32) (h : ¬ t.val % 32 = 0) :
    (stAt0 m c t.val t.isLt acc).2 = (k0_pay1 (F := Ideal) (k0_pay12 (iblk m c 1 t) acc.2.1),
      k0_pay11 (F := Ideal) (iblk m c 0 t) acc.2.2.1,
      k0_pay2 (F := Ideal) (k0_pay9 (iblk m c 0 t)) (k0_pay10 (iblk m c 0 t) (iblk m c 1 t)) acc.2.2.2) := by
  by_cases h' : t.val % 32 = 31
  · rw [stAt0_C m c t acc h h']
    dsimp only
    frame_out
    simp only [read_unread_whole]
  · rw [stAt0_B m c t acc h h']
    dsimp only
    frame_out
    simp only [read_unread_whole]

/-- The last point stores the score of the counts it leaves. -/
theorem step_last (t : Fin cfg0.N) (acc : Vec Ideal S1x1 .f32 × Vec Ideal S1x1024 .f32 × Vec Ideal S1x1024 .f32 × Vec Ideal S1x1024 .f32) (h : t.val % 32 = 31) :
    (stAt0 m c t.val t.isLt acc).1
      = k0_pay3 (F := Ideal) (stAt0 m c t.val t.isLt acc).2.2.2 (stAt0 m c t.val t.isLt acc).2.1 (stAt0 m c t.val t.isLt acc).2.2.1 := by
  rw [step_next m c t acc (by omega), stAt0_C m c t acc (by omega) h]
  dsimp only
  frame_out
  simp only [read_unread_whole]

/-! ## All grid points -/

/-- The three scratch vectors hold the counts over the first `n` rows. -/
def Holds (n : ℕ) (s : Vec Ideal S1x1024 .f32 × Vec Ideal S1x1024 .f32 × Vec Ideal S1x1024 .f32) : Prop :=
  ∀ l : Fin 1024, s.1 (ix2 0 l) = trueCount (labels m c) n l.val ∧ s.2.1 (ix2 0 l) = predCount (scores m c) n l.val
    ∧ s.2.2 (ix2 0 l) = hitCount (scores m c) (labels m c) n l.val

/-- Adding the counts of block `t` to counts over the rows before it gives the counts over the rows up to its end. -/
theorem holds_step (t : Fin cfg0.N) (a b d : Vec Ideal S1x1024 .f32) (h : Holds m c (512 * t.val) (a, b, d)) :
    Holds m c (512 * t.val + 512) (k0_pay1 (F := Ideal) (k0_pay12 (iblk m c 1 t) a), k0_pay11 (F := Ideal) (iblk m c 0 t) b,
      k0_pay2 (F := Ideal) (k0_pay9 (iblk m c 0 t)) (k0_pay10 (iblk m c 0 t) (iblk m c 1 t)) d) := by
  intro l
  obtain ⟨ha, hb, hd⟩ := h l
  refine ⟨?_, ?_, ?_⟩
  · refine (trueCount_apply _ _ l).trans ?_
    rw [trueCount, tally_add]
    refine congrArg₂ (· + ·) ha (Finset.sum_congr rfl fun r _ => ?_)
    rw [true_block]
  · refine (predCount_apply _ _ l).trans ?_
    rw [predCount, tally_add]
    refine congrArg₂ (· + ·) hb (Finset.sum_congr rfl fun r _ => ?_)
    rw [pred_block]
  · refine (hitCount_apply _ _ _ l).trans ?_
    rw [hitCount, tally_add]
    refine congrArg₂ (· + ·) hd (Finset.sum_congr rfl fun r _ => ?_)
    rw [true_block, pred_block]

/-- After the point of block `n` the scratch vectors hold the counts over the rows of the blocks up to `n`. -/
theorem holds (n : ℕ) : ∀ hn : n < cfg0.N, Holds m c (512 * n + 512) (outsAt0 m c n hn).2 := by
  induction n with
  | zero =>
    intro hn
    rw [outsAt0_zero, step_first m c ⟨0, hn⟩ _ rfl]
    refine holds_step m c ⟨0, hn⟩ _ _ _ fun l => ?_
    obtain ⟨h4, h5, h6⟩ := zero_apply l
    exact ⟨h4.trans (tally_zero _).symm, h5.trans (tally_zero _).symm, h6.trans (tally_zero _).symm⟩
  | succ n ih =>
    intro hn
    have h32 := lt_of_lt_of_eq hn N_0
    rw [outsAt0_succ, step_next m c ⟨n + 1, hn⟩ _ (by dsimp only; omega)]
    exact holds_step m c ⟨n + 1, hn⟩ _ _ _ (ih (Nat.lt_of_succ_lt hn))

/-- The result of the kernel: the score of the counts over all rows. -/
theorem result :
    G2 m c (ix2 0 0)
      = laneScore
          (laneMean (fun l => hitCount (scores m c) (labels m c) 16384 l.val) (fun l => trueCount (labels m c) 16384 l.val))
          (laneMean (fun l => hitCount (scores m c) (labels m c) 16384 l.val) (fun l => predCount (scores m c) 16384 l.val)) := by
  have h31 : 31 < cfg0.N := lt_of_lt_of_eq (by decide) N_0.symm
  have e : G2 m c = (outsAt0 m c 31 h31).1 := by rw [G2_last, outsAt0_sweep]
  have hh := holds m c 31 h31
  rw [outsAt0_succ m c 30 h31] at e hh
  rw [e, step_last m c ⟨31, h31⟩ _ rfl, score_apply]
  have h1 := funext fun l => (hh l).1
  have h2 := funext fun l => (hh l).2.1
  have h3 := funext fun l => (hh l).2.2
  dsimp only at h1 h2 h3 ⊢
  rw [h1, h2, h3]

end Cert.KernelIdeal.State

end
-- ==== Proof.RefRun.lean ====
/-
  The run of the reference program: a straight line of array operations on the host. Every execution ends, the two
  argument arrays keep their contents, and the result array holds the composed term `score` of the diagonal, the row
  sums and the column sums of the confusion table `table` of the two arguments.
-/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-! ## The composed terms -/

/-- The index part of an array of (value, index) pairs. -/
def indexPart {α β : Type} {s : Shape} (f : s.Idx → α × β) : s.Idx → β := fun j => (f j).2

/-- It is read element by element. -/
theorem indexPart_apply {α β : Type} {s : Shape} (f : s.Idx → α × β) (j : s.Idx) : indexPart f j = (f j).2 := rfl

/-- The predicted class of every row: the index part of the arg-max reduction along the second axis. -/
def predicted (x : FVec F S16384x1000 .f32) : IVec S16384 32 :=
  indexPart (Host.argReduce reducer_argmax_f32_i32 x (iotaInDim S16384x1000 32 1) (constant S_ .f32 0xFF800000#32)
    (constantI S_ 32 0#32) reducesTo_S16384x1000_S16384_d1 h_S_)

/-- A vector of class numbers with the negative ones moved up by the number of classes. -/
def wrapped (v : IVec S16384 32) : IVec S16384 32 :=
  select (cmpi .slt v (broadcastInDim S16384 ![] bcast_S_S16384 (constantI S_ 32 0#32)))
    (addi v (broadcastInDim S16384 ![] bcast_S_S16384 (constantI S_ 32 1000#32))) v

/-- The pair (true class, predicted class) of every row. -/
def pairs (t p : IVec S16384 32) : IVec S16384x2 32 :=
  concatenate S16384x2 1
    [⟨S16384x1, broadcastInDim S16384x1 ![0] bcast_S16384_S16384x1_0 t⟩,
     ⟨S16384x1, broadcastInDim S16384x1 ![0] bcast_S16384_S16384x1_0 p⟩] concatenates_S16384x1_S16384x1_S16384x2_d1

/-- The confusion table: one added at the pair of every row, to a table of zeros. -/
def table (x : FVec F S16384x1000 .f32) (t : IVec S16384 32) : FVec F S1000x1000 .f32 :=
  Host.scatterAdd scatter_S1000x1000_S16384x2_S16384_n_01_01_1
    (broadcastInDim S1000x1000 ![] bcast_S_S1000x1000 (constant S_ .f32 0x00000000#32))
    (pairs (wrapped t) (wrapped (predicted x)))
    (broadcastInDim S16384 ![] bcast_S_S16384 (constant S_ .f32 0x3F800000#32))

/-- The class numbers 0, 1, …, 999, the negative ones (there is none) moved up by the number of classes. -/
def classIdx : IVec S1000 32 :=
  select (cmpi .slt (iotaInDim S1000 32 0) (broadcastInDim S1000 ![] bcast_S_S1000 (constantI S_ 32 0#32)))
    (addi (iotaInDim S1000 32 0) (broadcastInDim S1000 ![] bcast_S_S1000 (constantI S_ 32 1000#32))) (iotaInDim S1000 32 0)

/-- The diagonal of a table, gathered at the pairs (i, i). -/
def diagonal (w : FVec F S1000x1000 .f32) : FVec F S1000 .f32 :=
  Host.gather gather_S1000x1000_S1000x2_S1000_n_01_n_n_01_1_11 w
    (concatenate S1000x2 1
      [⟨S1000x1, broadcastInDim S1000x1 ![0] bcast_S1000_S1000x1_0 classIdx⟩,
       ⟨S1000x1, broadcastInDim S1000x1 ![0] bcast_S1000_S1000x1_0 classIdx⟩] concatenates_S1000x1_S1000x1_S1000x2_d1)

/-- The row sums of a table. -/
def rowSums (w : FVec F S1000x1000 .f32) : FVec F S1000 .f32 :=
  Host.reduceAdd w (constant S_ .f32 0x00000000#32) reducesTo_S1000x1000_S1000_d1 h_S_

/-- The column sums of a table. -/
def colSums (w : FVec F S1000x1000 .f32) : FVec F S1000 .f32 :=
  Host.reduceAdd w (constant S_ .f32 0x00000000#32) reducesTo_S1000x1000_S1000_d0 h_S_

/-- The mean over the classes of TP / (TP + (total - TP) + 1e-7). -/
def meanRatio (tp total : FVec F S1000 .f32) : FVec F S_ .f32 :=
  Host.divf
    (Host.reduceAdd
      (Host.divf tp
        (addf (addf tp (subf total tp)) (broadcastInDim S1000 ![] bcast_S_S1000 (constant S_ .f32 0x33D6BF95#32))))
      (constant S_ .f32 0x00000000#32) reducesTo_S1000_S_d0 h_S_)
    (constant S_ .f32 0x447A0000#32)

/-- The score from the precision `p` and the sensitivity `s`: 2 · (p · s / (p + s + 1e-7)). -/
def combine (p s : FVec F S_ .f32) : FVec F S_ .f32 :=
  mulf (constant S_ .f32 0x40000000#32)
    (Host.divf (mulf p s) (addf (addf p s) (constant S_ .f32 0x33D6BF95#32)))

/-- The score, as a 1 × 1 array, from the diagonal, the row sums and the column sums. -/
def score (tp rows cols : FVec F S1000 .f32) : FVec F S1x1 .f32 :=
  shapeCast S1x1 (combine (meanRatio tp rows) (meanRatio tp cols)) shapeCasts_S_S1x1

/-! ## The operations and their run -/

/-- The operations up to the confusion table: the arg-max of every row, the pair of labels of every row, the scatter. -/
abbrev opsA : List (HloOp τ sig (Elt F)) :=
  [ nullary main_call0_v0 (iotaInDim S16384x1000 32 1),
    nullary main_call0_cst (constant S_ .f32 0xFF800000#32),
    nullary main_call0_c (constantI S_ 32 0#32),
    quaternary main_arg0 main_call0_v0 main_call0_cst main_call0_c main_call0_v1_0 (fun x y u v j => (Host.argReduce reducer_argmax_f32_i32 x y u v reducesTo_S16384x1000_S16384_d1 h_S_ j).1),
    quaternary main_arg0 main_call0_v0 main_call0_cst main_call0_c main_v0 (fun x y u v j => (Host.argReduce reducer_argmax_f32_i32 x y u v reducesTo_S16384x1000_S16384_d1 h_S_ j).2),
    nullary main_cst (constant S_ .f32 0x00000000#32),
    unary main_cst main_v1 (broadcastInDim S1000x1000 ![] bcast_S_S1000x1000),
    nullary main_c (constantI S_ 32 0#32),
    unary main_c main_v2 (broadcastInDim S16384 ![] bcast_S_S16384),
    binary main_arg1 main_v2 main_v3 (cmpi .slt),
    nullary main_c_0 (constantI S_ 32 1000#32),
    unary main_c_0 main_v4 (broadcastInDim S16384 ![] bcast_S_S16384),
    binary main_arg1 main_v4 main_v5 addi,
    ternary main_v3 main_v5 main_arg1 main_v6 select,
    nullary main_c_1 (constantI S_ 32 0#32),
    unary main_c_1 main_v7 (broadcastInDim S16384 ![] bcast_S_S16384),
    binary main_v0 main_v7 main_v8 (cmpi .slt),
    nullary main_c_2 (constantI S_ 32 1000#32),
    unary main_c_2 main_v9 (broadcastInDim S16384 ![] bcast_S_S16384),
    binary main_v0 main_v9 main_v10 addi,
    ternary main_v8 main_v10 main_v0 main_v11 select,
    unary main_v6 main_v12 (broadcastInDim S16384x1 ![0] bcast_S16384_S16384x1_0),
    unary main_v11 main_v13 (broadcastInDim S16384x1 ![0] bcast_S16384_S16384x1_0),
    binary main_v12 main_v13 main_v14 (fun a b => concatenate S16384x2 1 [⟨S16384x1, a⟩, ⟨S16384x1, b⟩] concatenates_S16384x1_S16384x1_S16384x2_d1),
    nullary main_cst_3 (constant S_ .f32 0x3F800000#32),
    unary main_cst_3 main_v15 (broadcastInDim S16384 ![] bcast_S_S16384),
    ternary main_v1 main_v14 main_v15 main_v16 (fun x i u => Host.scatterAdd scatter_S1000x1000_S16384x2_S16384_n_01_01_1 x i u) ]

/-- The operations that read the table: its diagonal, its row sums, its column sums. -/
abbrev opsB : List (HloOp τ sig (Elt F)) :=
  [ nullary main_v17 (iotaInDim S1000 32 0),
    nullary main_v18 (iotaInDim S1000 32 0),
    nullary main_c_4 (constantI S_ 32 0#32),
    unary main_c_4 main_v19 (broadcastInDim S1000 ![] bcast_S_S1000),
    binary main_v17 main_v19 main_v20 (cmpi .slt),
    nullary main_c_5 (constantI S_ 32 1000#32),
    unary main_c_5 main_v21 (broadcastInDim S1000 ![] bcast_S_S1000),
    binary main_v17 main_v21 main_v22 addi,
    ternary main_v20 main_v22 main_v17 main_v23 select,
    nullary main_c_6 (constantI S_ 32 0#32),
    unary main_c_6 main_v24 (broadcastInDim S1000 ![] bcast_S_S1000),
    binary main_v18 main_v24 main_v25 (cmpi .slt),
    nullary main_c_7 (constantI S_ 32 1000#32),
    unary main_c_7 main_v26 (broadcastInDim S1000 ![] bcast_S_S1000),
    binary main_v18 main_v26 main_v27 addi,
    ternary main_v25 main_v27 main_v18 main_v28 select,
    unary main_v23 main_v29 (broadcastInDim S1000x1 ![0] bcast_S1000_S1000x1_0),
    unary main_v28 main_v30 (broadcastInDim S1000x1 ![0] bcast_S1000_S1000x1_0),
    binary main_v29 main_v30 main_v31 (fun a b => concatenate S1000x2 1 [⟨S1000x1, a⟩, ⟨S1000x1, b⟩] concatenates_S1000x1_S1000x1_S1000x2_d1),
    binary main_v16 main_v31 main_v32 (fun x i => Host.gather gather_S1000x1000_S1000x2_S1000_n_01_n_n_01_1_11 x i),
    nullary main_cst_8 (constant S_ .f32 0x00000000#32),
    binary main_v16 main_cst_8 main_v33 (fun x v => Host.reduceAdd x v reducesTo_S1000x1000_S1000_d1 h_S_),
    nullary main_cst_9 (constant S_ .f32 0x00000000#32),
    binary main_v16 main_cst_9 main_v34 (fun x v => Host.reduceAdd x v reducesTo_S1000x1000_S1000_d0 h_S_) ]

/-- The operations from those three vectors to the score. -/
abbrev opsC : List (HloOp τ sig (Elt F)) :=
  [ binary main_v33 main_v32 main_v35 subf,
    binary main_v34 main_v32 main_v36 subf,
    binary main_v32 main_v36 main_v37 addf,
    nullary main_cst_10 (constant S_ .f32 0x33D6BF95#32),
    unary main_cst_10 main_v38 (broadcastInDim S1000 ![] bcast_S_S1000),
    binary main_v37 main_v38 main_v39 addf,
    binary main_v32 main_v39 main_v40 Host.divf,
    nullary main_cst_11 (constant S_ .f32 0x00000000#32),
    binary main_v40 main_cst_11 main_v41 (fun x v => Host.reduceAdd x v reducesTo_S1000_S_d0 h_S_),
    nullary main_cst_12 (constant S_ .f32 0x447A0000#32),
    binary main_v41 main_cst_12 main_v42 Host.divf,
    binary main_v32 main_v35 main_v43 addf,
    nullary main_cst_13 (constant S_ .f32 0x33D6BF95#32),
    unary main_cst_13 main_v44 (broadcastInDim S1000 ![] bcast_S_S1000),
    binary main_v43 main_v44 main_v45 addf,
    binary main_v32 main_v45 main_v46 Host.divf,
    nullary main_cst_14 (constant S_ .f32 0x00000000#32),
    binary main_v46 main_cst_14 main_v47 (fun x v => Host.reduceAdd x v reducesTo_S1000_S_d0 h_S_),
    nullary main_cst_15 (constant S_ .f32 0x447A0000#32),
    binary main_v47 main_cst_15 main_v48 Host.divf,
    binary main_v48 main_v42 main_v49 mulf,
    binary main_v48 main_v42 main_v50 addf,
    nullary main_cst_16 (constant S_ .f32 0x33D6BF95#32),
    binary main_v50 main_cst_16 main_v51 addf,
    binary main_v49 main_v51 main_v52 Host.divf,
    nullary main_cst_17 (constant S_ .f32 0x40000000#32),
    binary main_cst_17 main_v52 main_v53 mulf,
    reshape main_v53 main_v54 (rfl : (.f32 : EltTy) = .f32) shapeCasts_S_S1x1 ]

set_option maxHeartbeats 4000000 in
/-- The program is these operations, one after the other. -/
theorem main_eq (c : Dev nD) : main (F := F) c = seq (opsA ++ (opsB ++ opsC)) := rfl

/-- Running one list of operations after another is running their concatenation. -/
theorem after_concat (l₁ l₂ : List (HloOp τ sig (Elt F))) (V : Valuation τ sig (Elt F)) :
    after (l₁ ++ l₂) V = after l₂ (after l₁ V) := by
  induction l₁ generalizing V with
  | nil => rfl
  | cons op l ih => exact ih _

/-- After the first stretch the table's buffer holds the table of the arguments. -/
theorem opsA_table (V : Valuation τ sig (Elt F)) :
    after opsA V (main_v16 : DevRef τ sig) = table (V (main_arg0 : DevRef τ sig)) (V (main_arg1 : DevRef τ sig)) := by
  after_results
  rfl

/-- The second stretch leaves the table's diagonal, -/
theorem opsB_diagonal (V : Valuation τ sig (Elt F)) :
    after opsB V (main_v32 : DevRef τ sig) = diagonal (V (main_v16 : DevRef τ sig)) := by
  after_results
  rfl

/-- its row sums, -/
theorem opsB_rows (V : Valuation τ sig (Elt F)) :
    after opsB V (main_v33 : DevRef τ sig) = rowSums (V (main_v16 : DevRef τ sig)) := by
  after_results
  rfl

/-- and its column sums. -/
theorem opsB_cols (V : Valuation τ sig (Elt F)) :
    after opsB V (main_v34 : DevRef τ sig) = colSums (V (main_v16 : DevRef τ sig)) := by
  after_results
  rfl

/-- The third stretch leaves the score of those three vectors in the result's buffer. -/
theorem opsC_score (V : Valuation τ sig (Elt F)) :
    after opsC V (main_v54 : DevRef τ sig)
      = score (V (main_v32 : DevRef τ sig)) (V (main_v33 : DevRef τ sig)) (V (main_v34 : DevRef τ sig)) := by
  after_results
  rfl

/-- No stretch writes the first argument's buffer, -/
theorem kept0 (V : Valuation τ sig (Elt F)) :
    after (opsA ++ (opsB ++ opsC)) V (main_arg0 : DevRef τ sig) = V (main_arg0 : DevRef τ sig) := by
  rw [after_concat, after_concat]
  have hA : ∀ W : Valuation τ sig (Elt F), after opsA W (main_arg0 : DevRef τ sig) = W (main_arg0 : DevRef τ sig) := by
    intro W; after_results
  have hB : ∀ W : Valuation τ sig (Elt F), after opsB W (main_arg0 : DevRef τ sig) = W (main_arg0 : DevRef τ sig) := by
    intro W; after_results
  have hC : ∀ W : Valuation τ sig (Elt F), after opsC W (main_arg0 : DevRef τ sig) = W (main_arg0 : DevRef τ sig) := by
    intro W; after_results
  rw [hC, hB, hA]

/-- nor the second's. -/
theorem kept1 (V : Valuation τ sig (Elt F)) :
    after (opsA ++ (opsB ++ opsC)) V (main_arg1 : DevRef τ sig) = V (main_arg1 : DevRef τ sig) := by
  rw [after_concat, after_concat]
  have hA : ∀ W : Valuation τ sig (Elt F), after opsA W (main_arg1 : DevRef τ sig) = W (main_arg1 : DevRef τ sig) := by
    intro W; after_results
  have hB : ∀ W : Valuation τ sig (Elt F), after opsB W (main_arg1 : DevRef τ sig) = W (main_arg1 : DevRef τ sig) := by
    intro W; after_results
  have hC : ∀ W : Valuation τ sig (Elt F), after opsC W (main_arg1 : DevRef τ sig) = W (main_arg1 : DevRef τ sig) := by
    intro W; after_results
  rw [hC, hB, hA]

/-- The result's buffer after all the operations. -/
theorem result_eq (V : Valuation τ sig (Elt F)) :
    after (opsA ++ (opsB ++ opsC)) V (main_v54 : DevRef τ sig)
      = score (diagonal (table (V (main_arg0 : DevRef τ sig)) (V (main_arg1 : DevRef τ sig))))
          (rowSums (table (V (main_arg0 : DevRef τ sig)) (V (main_arg1 : DevRef τ sig))))
          (colSums (table (V (main_arg0 : DevRef τ sig)) (V (main_arg1 : DevRef τ sig)))) := by
  rw [after_concat, after_concat, opsC_score, opsB_diagonal, opsB_rows, opsB_cols, opsA_table]

/-- No buffer and no semaphore of the program is scoped. -/
theorem scopedRefs_eq : (Finset.univ.filter fun b : Ref sig .tc => b.isScoped) = ∅ := by decide
@[inherit_doc scopedRefs_eq]
theorem scopedSems_eq : (Finset.univ.filter fun sm : SemLoc sig => sm.isScoped .tc) = ∅ := by decide

/-- Every operation of the three stretches names buffers of the core that runs the program. -/
theorem opsA_sub : (opsA : List (HloOp τ sig (Elt F))).Forall fun op => op.bufs ⊆ tcRefs τ sig :=
  ⟨nullary_bufs_sub ..,
    nullary_bufs_sub ..,
    nullary_bufs_sub ..,
    quaternary_bufs_sub ..,
    quaternary_bufs_sub ..,
    nullary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    unary_bufs_sub ..,
    binary_bufs_sub ..,
    nullary_bufs_sub ..,
    unary_bufs_sub ..,
    ternary_bufs_sub ..⟩

@[inherit_doc opsA_sub] theorem opsB_sub : (opsB : List (HloOp τ sig (Elt F))).Forall fun op => op.bufs ⊆ tcRefs τ sig :=
  ⟨nullary_bufs_sub ..,
    nullary_bufs_sub ..,
    nullary_bufs_sub ..,
    unary_bufs_sub ..,
    binary_bufs_sub ..,
    nullary_bufs_sub ..,
    unary_bufs_sub ..,
    binary_bufs_sub ..,
    ternary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    unary_bufs_sub ..,
    binary_bufs_sub ..,
    binary_bufs_sub ..,
    nullary_bufs_sub ..,
    binary_bufs_sub ..,
    nullary_bufs_sub ..,
    binary_bufs_sub ..⟩

@[inherit_doc opsA_sub] theorem opsC_sub : (opsC : List (HloOp τ sig (Elt F))).Forall fun op => op.bufs ⊆ tcRefs τ sig :=
  ⟨binary_bufs_sub ..,
    binary_bufs_sub ..,
    binary_bufs_sub ..,
    nullary_bufs_sub ..,
    unary_bufs_sub ..,
    binary_bufs_sub ..,
    binary_bufs_sub ..,
    nullary_bufs_sub ..,
    binary_bufs_sub ..,
    nullary_bufs_sub ..,
    binary_bufs_sub ..,
    binary_bufs_sub ..,
    nullary_bufs_sub ..,
    unary_bufs_sub ..,
    binary_bufs_sub ..,
    binary_bufs_sub ..,
    nullary_bufs_sub ..,
    binary_bufs_sub ..,
    nullary_bufs_sub ..,
    binary_bufs_sub ..,
    binary_bufs_sub ..,
    binary_bufs_sub ..,
    nullary_bufs_sub ..,
    binary_bufs_sub ..,
    binary_bufs_sub ..,
    nullary_bufs_sub ..,
    binary_bufs_sub ..,
    reshape_bufs_sub ..⟩

/-- So do all of them. -/
theorem ops_sub : (opsA ++ (opsB ++ opsC) : List (HloOp τ sig (Elt F))).Forall fun op => op.bufs ⊆ tcRefs τ sig := by
  rw [List.forall_append, List.forall_append]
  exact ⟨opsA_sub, opsB_sub, opsC_sub⟩

/-- Every execution of the reference ends, with the score of the arguments in the result array and the two argument
    arrays as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
          = score (diagonal (table (m ((c.tc : Thread nD τ).loc main_arg0)) (m ((c.tc : Thread nD τ).loc main_arg1))))
              (rowSums (table (m ((c.tc : Thread nD τ).loc main_arg0)) (m ((c.tc : Thread nD τ).loc main_arg1))))
              (colSums (table (m ((c.tc : Thread nD τ).loc main_arg0)) (m ((c.tc : Thread nD τ).loc main_arg1))))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v54).trans (result_eq _),
      (h c main_arg0).trans (kept0 _), (h c main_arg1).trans (kept1 _)⟩)
    (run_seq scopedRefs_eq scopedSems_eq defs main (fun _ => opsA ++ (opsB ++ opsC)) main_eq (fun _ => ops_sub) m ρ)

/-- The reference leaves its arguments alone, and every semaphore counter (it has none) at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.ReferenceIdeal.Run

end
-- ==== Proof.RefArgmax.lean ====
/-
  The reference's predicted classes: its arg-max reduction of a row is the first place of the row's greatest value.
-/
module

public import proofs.«01_k».proof.Proof.RefRun
public import Idealize.ShloMosaic.Lib.Pointwise
public import proofs.«01_k».proof.Proof.Rows

@[expose] public section

set_option maxRecDepth 16384

noncomputable section

namespace Cert.ReferenceIdeal.Argmax

open Cert.ReferenceIdeal Cert.ReferenceIdeal.Gen Cert.ReferenceIdeal.Run Cert.FirstMax Cert.Rows
open Idealize.ShloMosaic Idealize.ShloMosaic.TcCoe Idealize.SL.Sem

/-- The reducer keeps one of its two pairs, one at least as good as the other. -/
theorem reducer_better (a b : EReal × BitVec 32) :
    (reducer_argmax_f32_i32 (F := Ideal) a b = a ∧ Better a b) ∨ (reducer_argmax_f32_i32 (F := Ideal) a b = b ∧ Better b a) := by
  obtain ⟨a1, a2⟩ := a
  obtain ⟨b1, b2⟩ := b
  have hu : FloatOps.cmpf (F := Ideal) (φ := .f32) .une a1 a1 = 0#1 := by simp [Ideal.cmpf_def, Ideal.cmp]
  unfold reducer_argmax_f32_i32 Better
  dsimp only
  rw [hu]
  rcases lt_trichotomy b1 a1 with h | h | h
  · left
    have hg : FloatOps.cmpf (F := Ideal) (φ := .f32) .ogt a1 b1 = 1#1 := by simp [Ideal.cmpf_def, Ideal.cmp, h]
    rw [hg]
    refine ⟨?_, Or.inl h⟩
    have ho : ∀ w : BitVec 1, IntOp.ori 1#1 w = 1#1 := by decide
    rw [ho, ho]
    rfl
  · subst h
    have hg : FloatOps.cmpf (F := Ideal) (φ := .f32) .ogt b1 b1 = 0#1 := by simp [Ideal.cmpf_def, Ideal.cmp]
    have he : FloatOps.cmpf (F := Ideal) (φ := .f32) .oeq b1 b1 = 1#1 := by simp [Ideal.cmpf_def, Ideal.cmp]
    rw [hg, he]
    by_cases hs : a2.toInt < b2.toInt
    · left
      refine ⟨?_, Or.inr ⟨rfl, hs.le⟩⟩
      simp [Scalar.select, IntOp.ori, IntOp.andi, IntOp.cmpi, BitVec.slt_eq_decide, hs]
    · right
      refine ⟨?_, Or.inr ⟨rfl, not_lt.1 hs⟩⟩
      simp [Scalar.select, IntOp.ori, IntOp.andi, IntOp.cmpi, BitVec.slt_eq_decide, hs]
  · right
    have hg : FloatOps.cmpf (F := Ideal) (φ := .f32) .ogt a1 b1 = 0#1 := by simp [Ideal.cmpf_def, Ideal.cmp, not_lt.2 h.le]
    have he : FloatOps.cmpf (F := Ideal) (φ := .f32) .oeq a1 b1 = 0#1 := by simp [Ideal.cmpf_def, Ideal.cmp, h.ne]
    rw [hg, he]
    refine ⟨?_, Or.inl h⟩
    simp [Scalar.select, IntOp.ori, IntOp.andi]

/-- The pairs the reduction of row `r` goes through are the row's values with their places. -/
theorem mem_fiber (x : FVec Ideal S16384x1000 .f32) (r : Fin 16384) (a : EReal × BitVec 32) :
    a ∈ Host.argReduceFiber x (iotaInDim S16384x1000 32 1) reducesTo_S16384x1000_S16384_d1 (ix1 r)
      ↔ ∃ k : Fin 1000, a = (x (ix2 r k), BitVec.ofNat 32 k.val) := by
  have hdrop : ∀ i : S16384x1000.Idx, reducesTo_S16384x1000_S16384_d1.drop i = ix1 r ↔ i 0 = r := by
    intro i
    have hv := Shape.ReducesTo.drop_apply_val_of_eq reducesTo_S16384x1000_S16384_d1 i 0 0 (by decide) (by decide)
    constructor
    · intro e
      rw [e] at hv
      exact Fin.ext hv.symm
    · intro e
      funext b
      obtain rfl : b = 0 := Subsingleton.elim _ _
      exact Fin.ext (hv.trans (congrArg Fin.val e))
  unfold Host.argReduceFiber
  simp only [List.mem_map, List.mem_filter, List.mem_finRange, true_and, decide_eq_true_eq]
  constructor
  · rintro ⟨n, hn, rfl⟩
    have h0 := (hdrop _).1 hn
    refine ⟨(S16384x1000.rowMajor.symm n) 1, ?_⟩
    refine Prod.ext (congrArg x ?_) rfl
    funext b
    match b with
    | ⟨0, _⟩ => exact h0
    | ⟨1, _⟩ => rfl
  · rintro ⟨k, rfl⟩
    refine ⟨S16384x1000.rowMajor (ix2 r k), ?_, ?_⟩
    · rw [Equiv.symm_apply_apply]
      exact (hdrop _).2 rfl
    · rw [Equiv.symm_apply_apply]
      rfl

/-- The starting value of the reduction is −∞. -/
theorem init_value : (constant S_ .f32 0xFF800000#32 : FVec Ideal S_ .f32) (Shape.Idx.first h_S_) = (⊥ : EReal) := by
  show Ideal.ofBits .f32 0xFF800000#32 = ⊥
  simp [Ideal.ofBits, Ideal.ieee]

/-- The reduction of row `r` is the fold over its pairs. -/
theorem argReduce_fold (x : FVec Ideal S16384x1000 .f32) (y : IVec S16384x1000 32) (u : FVec Ideal S_ .f32) (v : IVec S_ 32)
    (j : S16384.Idx) :
    Host.argReduce (reducer_argmax_f32_i32 (F := Ideal)) x y u v reducesTo_S16384x1000_S16384_d1 h_S_ j
      = (Host.argReduceFiber x y reducesTo_S16384x1000_S16384_d1 j).foldl
          (reducer_argmax_f32_i32 (F := Ideal)) (u (Shape.Idx.first h_S_), v (Shape.Idx.first h_S_)) := by
  rw [Ideal.argReduce_eq_reduce2, Host.reduce2_eq_foldl_fiber]

/-- The reference's predicted class of row `r`. -/
theorem predicted_apply (x : FVec Ideal S16384x1000 .f32) (r : Fin 16384) :
    predicted (F := Ideal) x (ix1 r) = predAt x r.val := by
  have e : predAt x r.val = BitVec.ofNat 32 (firstMax fun k => x (ix2 r k)).val := dif_pos r.isLt
  have h1 : constantI S_ 32 0#32 (Shape.Idx.first h_S_) = 0#32 := rfl
  rw [e]
  unfold predicted
  rw [indexPart_apply, argReduce_fold, init_value, h1]
  exact foldl_firstMax _ reducer_better (fun k => x (ix2 r k)) _ (mem_fiber x r)

end Cert.ReferenceIdeal.Argmax

end
-- ==== Proof.RefTable.lean ====
/-
  The reference's confusion table and what is read of it: entry (i, j) is the number of rows of class i predicted to be
  in class j, the diagonal holds the correct predictions, the row sums count the true classes and the column sums the
  predicted ones.
-/
module

public import proofs.«01_k».proof.Proof.RefArgmax
public import proofs.«01_k».proof.Proof.Equation
public import Idealize.ShloMosaic.Lib.Routing.OpsPair

@[expose] public section

set_option maxRecDepth 16384

noncomputable section

namespace Cert.ReferenceIdeal.Table

open Cert.ReferenceIdeal Cert.ReferenceIdeal.Gen Cert.ReferenceIdeal.Run Cert.ReferenceIdeal.Argmax Cert.FirstMax Cert.Rows Cert.Count Cert.Equation
open Idealize.ShloMosaic Idealize.ShloMosaic.TcCoe Idealize.SL.Sem

/-! ## The indices -/

/-- Wrapping changes no label that is a class number. -/
theorem wrapped_apply (v : IVec S16384 32) (r : Fin 16384) (k : Fin 1000) (h : v (ix1 r) = BitVec.ofNat 32 k.val) :
    wrapped v (ix1 r) = BitVec.ofNat 32 k.val := by
  pointwise [wrapped]
  rw [h]
  refine Routing.wrap_of_lt _ _ ?_
  rw [BitVec.toNat_ofNat]
  have := k.isLt
  omega

/-- The class numbers wrapped are the class numbers. -/
theorem classIdx_apply (i : Fin 1000) : classIdx (ix1 i) = BitVec.ofNat 32 i.val := by
  pointwise [classIdx]
  refine Routing.wrap_of_lt _ _ ?_
  rw [BitVec.toNat_ofNat]
  have := i.isLt
  omega

/-- The pair of row `r`: its true class, then its predicted one. -/
theorem pairs_apply (t p : IVec S16384 32) (r : Fin 16384) :
    pairs t p (ix2 r 0) = t (ix1 r) ∧ pairs t p (ix2 r 1) = p (ix1 r) := by
  constructor
  · pointwise [pairs]
  · pointwise [pairs]

/-- Where the update of row `r` lands: at the entry named by the two words of its pair, read signed. -/
theorem lands (idx : IVec S16384x2 32) (r : Fin 16384) (i j : Fin 1000) :
    scatter_S1000x1000_S16384x2_S16384_n_01_01_1.resultIdx? (ix1 r) idx = some (ix2 i j)
      ↔ (idx (ix2 r 0)).toInt = i.val ∧ (idx (ix2 r 1)).toInt = j.val := by
  have hm : ∀ q : Fin 2, q ∈ scatter_S1000x1000_S16384x2_S16384_n_01_01_1.scatterDimsToOperandDims := by
    intro q
    show q ∈ [0, 1]
    fin_cases q <;> simp
  have hwin : ∀ q : Fin 2, scatter_S1000x1000_S16384x2_S16384_n_01_01_1.window (ix1 r) q = 0 := fun q => by
    unfold ScatterDims.window
    rw [dif_neg fun h => (of_decide_eq_true (List.mem_filter.1 h).2) (hm q)]
  have hsi : ∀ q : Fin 2, scatter_S1000x1000_S16384x2_S16384_n_01_01_1.siIdx (ix1 r)
      ⟨scatter_S1000x1000_S16384x2_S16384_n_01_01_1.scatterDimsToOperandDims.idxOf q, List.idxOf_lt_length_iff.2 (hm q)⟩ = ix2 r q := by
    intro q
    funext b
    apply Fin.ext
    match b with
    | ⟨0, _⟩ => rfl
    | ⟨1, _⟩ => fin_cases q <;> rfl
  have hstart : ∀ q : Fin 2, scatter_S1000x1000_S16384x2_S16384_n_01_01_1.start (ix1 r) idx q = (idx (ix2 r q)).toInt := fun q => by
    unfold ScatterDims.start
    rw [dif_pos (hm q), hsi]
  rw [Routing.resultIdx?_eq_some]
  have he : ∀ a : Fin 2, (scatter_S1000x1000_S16384x2_S16384_n_01_01_1.start (ix1 r) idx a
      + (scatter_S1000x1000_S16384x2_S16384_n_01_01_1.window (ix1 r) a : ℤ) = ((ix2 i j a).val : ℤ))
      ↔ (idx (ix2 r a)).toInt = ((ix2 i j a).val : ℤ) := fun a => by
    rw [hstart, hwin, Nat.cast_zero, add_zero]
  constructor
  · intro h
    exact ⟨(he 0).1 (h 0), (he 1).1 (h 1)⟩
  · intro h a
    match a with
    | ⟨0, _⟩ => exact (he 0).2 h.1
    | ⟨1, _⟩ => exact (he 1).2 h.2

/-! ## The table -/

/-- The word of a class number, read signed, is the word of another class number's only if they are equal. -/
theorem toInt_eq_iff (a : BitVec 32) (k i : Fin 1000) (h : a = BitVec.ofNat 32 k.val) :
    a.toInt = (i.val : ℤ) ↔ a = BitVec.ofNat 32 i.val := by
  have hk := k.isLt
  have hi := i.isLt
  subst h
  rw [toInt_ofNat (by omega)]
  constructor
  · intro e
    rw [Nat.cast_inj.1 e]
  · intro e
    rw [ofNat_inj (by omega) (by omega) e]

/-- Entry (i, j) of the table counts the rows of class i predicted to be in class j. -/
theorem table_apply (x : FVec Ideal S16384x1000 .f32) (t : IVec S16384 32) (ht : InRange t) (i j : Fin 1000) :
    table (F := Ideal) x t (ix2 i j)
      = tally (fun R => trueAt t R = BitVec.ofNat 32 i.val ∧ predAt x R = BitVec.ofNat 32 j.val) 16384 := by
  have hl : ∀ r : Fin 16384, (scatter_S1000x1000_S16384x2_S16384_n_01_01_1.resultIdx? (ix1 r)
      (pairs (wrapped t) (wrapped (predicted (F := Ideal) x))) = some (ix2 i j))
      ↔ (trueAt t r.val = BitVec.ofNat 32 i.val ∧ predAt x r.val = BitVec.ofNat 32 j.val) := by
    intro r
    obtain ⟨k, hk⟩ := ht (ix1 r)
    obtain ⟨p, hp⟩ := predAt_eq x r.val
    have ht' : trueAt t r.val = BitVec.ofNat 32 k.val := (dif_pos r.isLt).trans hk
    rw [lands, (pairs_apply _ _ r).1, (pairs_apply _ _ r).2, wrapped_apply t r k hk,
      wrapped_apply _ r p ((predicted_apply x r).trans hp), toInt_eq_iff _ k i rfl, toInt_eq_iff _ p j rfl, ht', hp]
  have h0 : (broadcastInDim S1000x1000 ![] bcast_S_S1000x1000 (constant S_ .f32 0x00000000#32) : FVec Ideal S1000x1000 .f32) (ix2 i j) = 0 := by
    pointwise
  have h1 : ∀ r : Fin 16384, (broadcastInDim S16384 ![] bcast_S_S16384 (constant S_ .f32 0x3F800000#32) : FVec Ideal S16384 .f32) (ix1 r) = 1 := by
    intro r
    pointwise
  unfold table Host.scatterAdd
  rw [Ideal.hostScatterAdd_def]
  unfold Ideal.hostScatterAdd
  rw [h0, zero_add, tally_eq_sum, Finset.sum_filter]
  refine (sum_idx1 _).trans (Finset.sum_congr rfl fun r _ => ?_)
  rw [h1]
  exact if_congr (hl r) rfl rfl

/-! ## What is read of the table -/

/-- The pairs (i, i) of the class numbers. -/
def classPairs : IVec S1000x2 32 :=
  concatenate S1000x2 1
    [⟨S1000x1, broadcastInDim S1000x1 ![0] bcast_S1000_S1000x1_0 classIdx⟩,
     ⟨S1000x1, broadcastInDim S1000x1 ![0] bcast_S1000_S1000x1_0 classIdx⟩] concatenates_S1000x1_S1000x1_S1000x2_d1

/-- Pair `i` is (i, i). -/
theorem classPairs_apply (i : Fin 1000) :
    classPairs (ix2 i 0) = BitVec.ofNat 32 i.val ∧ classPairs (ix2 i 1) = BitVec.ofNat 32 i.val := by
  constructor
  · refine Eq.trans ?_ (classIdx_apply i)
    pointwise [classPairs]
  · refine Eq.trans ?_ (classIdx_apply i)
    pointwise [classPairs]

/-- The diagonal, gathered at the pairs (i, i). -/
theorem diagonal_apply (w : FVec Ideal S1000x1000 .f32) (i : Fin 1000) : diagonal (F := Ideal) w (ix1 i) = w (ix2 i i) := by
  have hm : ∀ q : Fin 2, q ∈ gather_S1000x1000_S1000x2_S1000_n_01_n_n_01_1_11.startIndexMap := by
    intro q
    show q ∈ [0, 1]
    fin_cases q <;> simp
  have hsi : ∀ q : Fin 2, gather_S1000x1000_S1000x2_S1000_n_01_n_n_01_1_11.siIdx (ix1 i)
      ⟨gather_S1000x1000_S1000x2_S1000_n_01_n_n_01_1_11.startIndexMap.idxOf q, List.idxOf_lt_length_iff.2 (hm q)⟩ = ix2 i q := by
    intro q
    funext b
    apply Fin.ext
    match b with
    | ⟨0, _⟩ => rfl
    | ⟨1, _⟩ => fin_cases q <;> rfl
  unfold diagonal Host.gather
  congr 1
  funext q
  apply Fin.ext
  show gather_S1000x1000_S1000x2_S1000_n_01_n_n_01_1_11.start (ix1 i) _ q
    + gather_S1000x1000_S1000x2_S1000_n_01_n_n_01_1_11.batchCoord (ix1 i) q
    + gather_S1000x1000_S1000x2_S1000_n_01_n_n_01_1_11.offCoord (ix1 i) q = _
  rw [GatherDims.batchCoord_eq_zero _ _ _ List.not_mem_nil,
    GatherDims.offCoord_eq_zero _ _ _ (fun h => ((GatherDims.mem_sKept _ _).mp h).1 (hm q)), add_zero, add_zero]
  unfold GatherDims.start
  rw [dif_pos (hm q), hsi]
  have hi := i.isLt
  fin_cases q
  · show min (classPairs (ix2 i 0)).toInt.toNat 999 = i.val
    rw [(classPairs_apply i).1, toInt_ofNat (by omega)]
    omega
  · show min (classPairs (ix2 i 1)).toInt.toNat 999 = i.val
    rw [(classPairs_apply i).2, toInt_ofNat (by omega)]
    omega

/-- The diagonal of the table counts the correct predictions of each class. -/
theorem diagonal_table (x : FVec Ideal S16384x1000 .f32) (t : IVec S16384 32) (ht : InRange t) (i : Fin 1000) :
    diagonal (F := Ideal) (table (F := Ideal) x t) (ix1 i) = hitCount x t 16384 i.val := by
  rw [diagonal_apply, table_apply x t ht]
  rfl

/-- The row sums of the table count the true classes. -/
theorem rowSums_table (x : FVec Ideal S16384x1000 .f32) (t : IVec S16384 32) (ht : InRange t) (i : Fin 1000) :
    rowSums (F := Ideal) (table (F := Ideal) x t) (ix1 i) = trueCount t 16384 i.val := by
  have e : rowSums (F := Ideal) (table (F := Ideal) x t) (ix1 i) = ∑ j : Fin 1000, table (F := Ideal) x t (ix2 i j) := by
    generalize table (F := Ideal) x t = w
    pointwise [rowSums]
  rw [e, Finset.sum_congr rfl fun j _ => table_apply x t ht i j]
  choose cls hcls using fun R => predAt_eq x R
  refine sum_tally (fun R => trueAt t R = BitVec.ofNat 32 i.val) (fun j R => predAt x R = BitVec.ofNat 32 j.val) 16384 cls ?_
  intro R _ j
  rw [hcls R]
  have hj := j.isLt
  have hc := (cls R).isLt
  exact ⟨fun e => Fin.ext (ofNat_inj (by omega) (by omega) e), fun e => by rw [e]⟩

/-- The column sums of the table count the predicted classes. -/
theorem colSums_table (x : FVec Ideal S16384x1000 .f32) (t : IVec S16384 32) (ht : InRange t) (j : Fin 1000) :
    colSums (F := Ideal) (table (F := Ideal) x t) (ix1 j) = predCount x 16384 j.val := by
  have e : colSums (F := Ideal) (table (F := Ideal) x t) (ix1 j) = ∑ i : Fin 1000, table (F := Ideal) x t (ix2 i j) := by
    generalize table (F := Ideal) x t = w
    pointwise [colSums]
  rw [e, Finset.sum_congr rfl fun i _ => (table_apply x t ht i j).trans (tally_congr fun R _ => and_comm)]
  choose cls hcls using fun R => ht.trueAt_eq R
  refine sum_tally (fun R => predAt x R = BitVec.ofNat 32 j.val) (fun i R => trueAt t R = BitVec.ofNat 32 i.val) 16384 cls ?_
  intro R _ i
  rw [hcls R]
  have hi := i.isLt
  have hc := (cls R).isLt
  exact ⟨fun e => Fin.ext (ofNat_inj (by omega) (by omega) e), fun e => by rw [e]⟩

/-! ## The score -/

/-- The mean ratio of two vectors, read. -/
theorem meanRatio_apply (tp total : FVec Ideal S1000 .f32) :
    meanRatio (F := Ideal) tp total ix0 = classMean (fun i => tp (ix1 i)) (fun i => total (ix1 i)) := by
  unfold classMean
  pointwise [meanRatio]

/-- The score of three vectors, read. -/
theorem score_apply (tp rows cols : FVec Ideal S1000 .f32) :
    score (F := Ideal) tp rows cols (ix2 0 0)
      = classScore (classMean (fun i => tp (ix1 i)) (fun i => rows (ix1 i)))
          (classMean (fun i => tp (ix1 i)) (fun i => cols (ix1 i))) := by
  rw [← meanRatio_apply, ← meanRatio_apply]
  unfold classScore
  pointwise [score, combine]

/-- The result of the reference, with every label in range: the score of the three counts. -/
theorem result (x : FVec Ideal S16384x1000 .f32) (t : IVec S16384 32) (ht : InRange t) :
    score (F := Ideal) (diagonal (table x t)) (rowSums (table x t)) (colSums (table x t)) (ix2 0 0)
      = classScore (classMean (fun i => hitCount x t 16384 i.val) (fun i => trueCount t 16384 i.val))
          (classMean (fun i => hitCount x t 16384 i.val) (fun i => predCount x 16384 i.val)) := by
  rw [score_apply]
  have h1 := funext fun i => diagonal_table x t ht i
  have h2 := funext fun i => rowSums_table x t ht i
  have h3 := funext fun i => colSums_table x t ht i
  rw [h1, h2, h3]

end Cert.ReferenceIdeal.Table

end
-- ==== Proof.InRange.lean ====
/-
  The precondition read: every label is a class number from 0 to 999.
-/
module

public import proofs.«01_k».proof.Proof.Gen.Pre_classes_in_range
public import Idealize.ShloMosaic.Lib.Pointwise
public import Idealize.ShloMosaic.Lib.ReduceAll
public import proofs.«01_k».proof.Proof.Rows

@[expose] public section

noncomputable section

namespace Cert.Pre_classes_in_range.Reading

open Cert.Pre_classes_in_range Cert.Pre_classes_in_range.Gen Cert.Rows Cert.FirstMax
open Idealize.ShloMosaic Idealize.ShloMosaic.TcCoe

/-- A word not below 0 and below 1000, signed, is a class number. -/
theorem class_of_tests (w : BitVec 32) (h : IntOp.andi (IntOp.cmpi .sge w 0#32) (IntOp.cmpi .slt w 1000#32) = 1#1) :
    ∃ k : Fin 1000, w = BitVec.ofNat 32 k.val := by
  have h2 : (0#32).sle w = true ∧ w.slt 1000#32 = true := by
    unfold IntOp.andi IntOp.cmpi at h
    dsimp only at h
    cases h1 : (0#32).sle w <;> cases h3 : w.slt 1000#32 <;> simp [h1, h3] at h ⊢
  rw [BitVec.sle_eq_decide, BitVec.slt_eq_decide, decide_eq_true_eq, decide_eq_true_eq] at h2
  have e0 : (0#32).toInt = 0 := rfl
  have e1 : (1000#32).toInt = 1000 := rfl
  rw [e0, e1] at h2
  refine ⟨⟨w.toInt.toNat, by omega⟩, BitVec.eq_of_toInt_eq ?_⟩
  rw [toInt_ofNat (by dsimp only; omega)]
  dsimp only
  omega

/-- The precondition puts every label in range. -/
theorem inRange (x : FVec Ideal S16384x1000 .f32) (t : IVec S16384 32)
    (h : Cert.Pre_classes_in_range.fn (F := Ideal) x t = fun _ => 1#1) : InRange t := by
  intro j
  have hs : Subsingleton S_.Idx := ⟨fun a b => funext fun d => d.elim0⟩
  have e := Host.reduce_andi_all _ _ _ _ ix0 (congrFun h ix0) j
  exact class_of_tests (t j) e

end Cert.Pre_classes_in_range.Reading

end
-- ==== Proof.lean ====
/-
  The proof of `Cert.Claim`: the kernel runs and leaves its arguments alone, over the machine's floats and over the
  extended reals, the reference too, and on labels in range the two leave equal results over the extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_classes_in_range
public import proofs.«01_k».proof.Proof.State
public import proofs.«01_k».proof.Proof.RefTable
public import proofs.«01_k».proof.Proof.InRange

@[expose] public section

noncomputable section

namespace Cert.Proof

open Idealize.ShloMosaic Idealize.SL.Sem

/-- On one device: from equal arguments with every label in range the reference's result is the kernel's. -/
theorem results_agree (m : (ℓ : Loc Cert.KernelIdeal.nD Cert.KernelIdeal.τ Cert.KernelIdeal.sig) → Buf (Elt Ideal) ℓ)
    (c : Dev Cert.KernelIdeal.nD) (x : FVec Ideal Cert.ReferenceIdeal.S16384x1000 .f32) (t : IVec Cert.ReferenceIdeal.S16384 32)
    (hx : x = Cert.KernelIdeal.State.scores m c) (ht : t = Cert.KernelIdeal.State.labels m c) (hr : Cert.Rows.InRange t) :
    Cert.ReferenceIdeal.Run.score (F := Ideal) (Cert.ReferenceIdeal.Run.diagonal (Cert.ReferenceIdeal.Run.table x t))
        (Cert.ReferenceIdeal.Run.rowSums (Cert.ReferenceIdeal.Run.table x t))
        (Cert.ReferenceIdeal.Run.colSums (Cert.ReferenceIdeal.Run.table x t))
      = Cert.KernelIdeal.Value.G2 m c := by
  have h : Cert.ReferenceIdeal.Run.score (F := Ideal) (Cert.ReferenceIdeal.Run.diagonal (Cert.ReferenceIdeal.Run.table x t))
        (Cert.ReferenceIdeal.Run.rowSums (Cert.ReferenceIdeal.Run.table x t))
        (Cert.ReferenceIdeal.Run.colSums (Cert.ReferenceIdeal.Run.table x t)) (ix2 0 0)
      = Cert.KernelIdeal.Value.G2 m c (ix2 0 0) := by
    rw [Cert.ReferenceIdeal.Table.result x t hr, Cert.KernelIdeal.State.result, hx, ht]
    exact (Cert.Equation.scores_agree _ _ (ht ▸ hr)).symm
  funext j
  have hj : j = ix2 0 0 := by
    funext a
    match a with
    | ⟨0, _⟩ => exact Subsingleton.elim (α := Fin 1) _ _
    | ⟨1, _⟩ => exact Subsingleton.elim (α := Fin 1) _ _
  rw [hj]
  exact h

/-- The claim. -/
theorem claim : Cert.Claim :=
  ⟨Cert.Kernel.Gen.facts, Cert.KernelIdeal.Gen.facts, Cert.ReferenceIdeal.Gen.facts, Cert.Pre_classes_in_range.Gen.facts,
    fun m g _ => Cert.Kernel.Gen.frame m g,
    fun m g _ => Cert.KernelIdeal.Gen.frame m g,
    fun m g _ => Cert.KernelIdeal.Gen.frame m g,
    fun m g _ => Cert.ReferenceIdeal.Run.frame m g,
    fun m g _ => Cert.ReferenceIdeal.Run.frame m g,
    trivial,
    fun m g m' g' hpre hag =>
      ⟨fun c => Cert.KernelIdeal.Value.G2 m c, Cert.KernelIdeal.Value.run m g,
        (θ_run _ _ _).mono (fun _ h c => ⟨(h c).1.trans (results_agree m c _ _ (hag c).1 (hag c).2
          (by rw [(hag c).2]; exact Cert.Pre_classes_in_range.Reading.inRange _ _ (hpre c))), (h c).2⟩)
          (Cert.ReferenceIdeal.Run.run m' g')⟩⟩

end Cert.Proof

end
